-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonzero [hPre_rows_nonzero : Cert.Pre_rows_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonzero [hPre_rows_nonzero : Cert.Pre_rows_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_rows_nonzero [hKernelIdeal : Cert.KernelIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_rows_nonzero [hReferenceIdeal : Cert.ReferenceIdeal.Facts] [hPre_rows_nonzero : Cert.Pre_rows_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def preserves_Kernel_KernelIdeal : Prop :=
  IdealRules.named_const.Statement Cert.KernelIdeal.κ "log2e_over_tau" .f32 0x3FE6D4CA#32 (((Real.log 2)⁻¹ * (16777216 / 13421773) : ℝ) : EReal)
  ∧ IdealRules.named_const.Statement Cert.KernelIdeal.κ "ln2" .f32 0x3F317218#32 ((Real.log 2 : ℝ) : EReal)

def preserves_Reference_ReferenceIdeal : Prop :=
  True

def algebraic_KernelIdeal_ReferenceIdeal_pre_rows_nonzero [hKernelIdeal : Cert.KernelIdeal.Facts] [hReferenceIdeal : Cert.ReferenceIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hReference : Cert.Reference.Facts) (hPre_rows_nonzero : Cert.Pre_rows_nonzero.Facts),
    quiescent_Kernel (hKernel := hKernel)
    ∧ quiescent_KernelIdeal (hKernelIdeal := hKernelIdeal)
    ∧ quiescent_KernelIdeal_pre_rows_nonzero (hKernelIdeal := hKernelIdeal) (hPre_rows_nonzero := hPre_rows_nonzero)
    ∧ quiescent_ReferenceIdeal (hReferenceIdeal := hReferenceIdeal)
    ∧ quiescent_ReferenceIdeal_pre_rows_nonzero (hReferenceIdeal := hReferenceIdeal) (hPre_rows_nonzero := hPre_rows_nonzero)
    ∧ quiescent_Reference (hReference := hReference)
    ∧ preserves_Kernel_KernelIdeal
    ∧ preserves_Reference_ReferenceIdeal
    ∧ algebraic_KernelIdeal_ReferenceIdeal_pre_rows_nonzero (hKernelIdeal := hKernelIdeal) (hReferenceIdeal := hReferenceIdeal) (hPre_rows_nonzero := hPre_rows_nonzero)
-- ==== Pre_rows_nonzero.lean ====
abbrev S4096x304 : Shape := ⟨2, ![4096, 304]⟩
abbrev S4096x112 : Shape := ⟨2, ![4096, 112]⟩
abbrev S304x256 : Shape := ⟨2, ![304, 256]⟩
abbrev S256 : Shape := ⟨1, ![256]⟩
abbrev S256x256 : Shape := ⟨2, ![256, 256]⟩
abbrev S112x256 : Shape := ⟨2, ![112, 256]⟩
abbrev S4096x256 : Shape := ⟨2, ![4096, 256]⟩
abbrev S1x256 : Shape := ⟨2, ![1, 256]⟩
abbrev S_ : Shape := ⟨0, ![]⟩
abbrev S4096 : Shape := ⟨1, ![4096]⟩

class Facts : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  reducesTo_S4096x256_S4096_d1 : S4096x256.ReducesTo [1] S4096
  h_S_ : 0 < S_.numel
  reducesTo_S4096_S_d0 : S4096.ReducesTo [0] S_
  dot_S4096x304_S304x256_S4096x256_1_0_0_1_n_n_wf : DotDims.WF S4096x304 S304x256 S4096x256 [1] [0] [0] [1] [] []
  dot_S4096x256_S256x256_S4096x256_1_0_0_1_n_n_wf : DotDims.WF S4096x256 S256x256 S4096x256 [1] [0] [0] [1] [] []
  dot_S4096x112_S112x256_S4096x256_1_0_0_1_n_n_wf : DotDims.WF S4096x112 S112x256 S4096x256 [1] [0] [0] [1] [] []

variable [Facts]

def dot_S4096x304_S304x256_S4096x256_1_0_0_1_n_n : DotDims S4096x304 S304x256 S4096x256 where
  lhsContracting := [1]
  rhsContracting := [0]
  lhsNonContracting := [0]
  rhsNonContracting := [1]
  lhsBatch := []
  rhsBatch := []
  wf := dot_S4096x304_S304x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x112_S112x256_S4096x256_1_0_0_1_n_n : DotDims S4096x112 S112x256 S4096x256 where
  lhsContracting := [1]
  rhsContracting := [0]
  lhsNonContracting := [0]
  rhsNonContracting := [1]
  lhsBatch := []
  rhsBatch := []
  wf := dot_S4096x112_S112x256_S4096x256_1_0_0_1_n_n_wf
def fn_where {F : FTy → Type} [FloatOps F] (arg0 : IVec S4096x256 1) (arg1 : FVec F S_ .f32) (arg2 : FVec F S4096x256 .f32) : FVec F S4096x256 .f32 :=
  let v0 : FVec F S_ .f32 := id arg1
  let v1 : FVec F S4096x256 .f32 := broadcastInDim S4096x256 ![] bcast_S_S4096x256 v0
  let v2 : FVec F S4096x256 .f32 := select arg0 v1 arg2
  v2

def fn_where_0 {F : FTy → Type} [FloatOps F] (arg0 : IVec S4096x256 1) (arg1 : FVec F S4096x256 .f32) (arg2 : FVec F S4096x256 .f32) : FVec F S4096x256 .f32 :=
  let v0 : FVec F S4096x256 .f32 := select arg0 arg1 arg2
  v0

def fn_elu {F : FTy → Type} [FloatOps F] (arg0 : FVec F S4096x256 .f32) : FVec F S4096x256 .f32 :=
  let cst : FVec F S_ .f32 := constant S_ .f32 0x00000000#32
  let v0 : FVec F S4096x256 .f32 := broadcastInDim S4096x256 ![] bcast_S_S4096x256 cst
  let v1 : IVec S4096x256 1 := cmpf .ogt arg0 v0
  let cst_0 : FVec F S_ .f32 := constant S_ .f32 0x00000000#32
  let v2 : FVec F S4096x256 .f32 := broadcastInDim S4096x256 ![] bcast_S_S4096x256 cst_0
  let v3 : IVec S4096x256 1 := cmpf .ogt arg0 v2
  let cst_1 : FVec F S_ .f32 := constant S_ .f32 0x00000000#32
  let v4 : FVec F S4096x256 .f32 := fn_where (F := F) v3 cst_1 arg0
  let v5 : FVec F S4096x256 .f32 := Host.expm1 v4
  let cst_2 : FVec F S_ .f32 := constant S_ .f32 0x3F800000#32
  let v6 : FVec F S4096x256 .f32 := broadcastInDim S4096x256 ![] bcast_S_S4096x256 cst_2
  let v7 : FVec F S4096x256 .f32 := mulf v6 v5
  let v8 : FVec F S4096x256 .f32 := fn_where_0 (F := F) v1 arg0 v7
  v8

def fn_part1 {F : FTy → Type} [FloatOps F] (main_v17 : FVec F S4096x256 .f32) (main_v20 : IVec S4096 1) (main_c_0 : IVec S_ 1) : IVec S_ 1 :=
  let main_v21 : IVec S_ 1 := (fun x v => Host.reduce IntOp.andi x v reducesTo_S4096_S_d0 h_S_) main_v20 main_c_0
  let main_cst_1 : FVec F S_ .f32 := constant S_ .f32 0x00000000#32
  let main_v22 : FVec F S4096x256 .f32 := broadcastInDim S4096x256 ![] bcast_S_S4096x256 main_cst_1
  let main_v23 : IVec S4096x256 1 := cmpf .une main_v17 main_v22
  let main_c_2 : IVec S_ 1 := constantI S_ 1 0#1
  let main_v24 : IVec S4096 1 := (fun x v => Host.reduce IntOp.ori x v reducesTo_S4096x256_S4096_d1 h_S_) main_v23 main_c_2
  let main_c_3 : IVec S_ 1 := constantI S_ 1 1#1
  let main_v25 : IVec S_ 1 := (fun x v => Host.reduce IntOp.andi x v reducesTo_S4096_S_d0 h_S_) main_v24 main_c_3
  let main_v26 : IVec S_ 1 := andi main_v21 main_v25
  main_v26

def fn {F : FTy → Type} [FloatOps F] (main_arg0 : FVec F S4096x304 .f32) (main_arg1 : FVec F S4096x112 .f32) (main_arg2 : FVec F S304x256 .f32) (main_arg3 : FVec F S256 .f32) (main_arg4 : FVec F S256x256 .f32) (main_arg5 : FVec F S256 .f32) (main_arg6 : FVec F S112x256 .f32) (main_arg7 : FVec F S256 .f32) (main_arg8 : FVec F S256x256 .f32) (main_arg9 : FVec F S256 .f32) : IVec S_ 1 :=
  let main_v0 : FVec F S4096x256 .f32 := (fun l r => Host.dotGeneral dot_S4096x304_S304x256_S4096x256_1_0_0_1_n_n none l r) main_arg0 main_arg2
  let main_v1 : FVec F S1x256 .f32 := broadcastInDim S1x256 ![1] bcast_S256_S1x256_1 main_arg3
  let main_v2 : FVec F S4096x256 .f32 := broadcastInDim S4096x256 ![0, 1] bcast_S1x256_S4096x256_0_1 main_v1
  let main_v3 : FVec F S4096x256 .f32 := addf main_v0 main_v2
  let main_v4 : FVec F S4096x256 .f32 := fn_elu (F := F) main_v3
  let main_v5 : FVec F S4096x256 .f32 := (fun l r => Host.dotGeneral dot_S4096x256_S256x256_S4096x256_1_0_0_1_n_n none l r) main_v4 main_arg4
  let main_v6 : FVec F S1x256 .f32 := broadcastInDim S1x256 ![1] bcast_S256_S1x256_1 main_arg5
  let main_v7 : FVec F S4096x256 .f32 := broadcastInDim S4096x256 ![0, 1] bcast_S1x256_S4096x256_0_1 main_v6
  let main_v8 : FVec F S4096x256 .f32 := addf main_v5 main_v7
  let main_v9 : FVec F S4096x256 .f32 := (fun l r => Host.dotGeneral dot_S4096x112_S112x256_S4096x256_1_0_0_1_n_n none l r) main_arg1 main_arg6
  let main_v10 : FVec F S1x256 .f32 := broadcastInDim S1x256 ![1] bcast_S256_S1x256_1 main_arg7
  let main_v11 : FVec F S4096x256 .f32 := broadcastInDim S4096x256 ![0, 1] bcast_S1x256_S4096x256_0_1 main_v10
  let main_v12 : FVec F S4096x256 .f32 := addf main_v9 main_v11
  let main_v13 : FVec F S4096x256 .f32 := fn_elu (F := F) main_v12
  let main_v14 : FVec F S4096x256 .f32 := (fun l r => Host.dotGeneral dot_S4096x256_S256x256_S4096x256_1_0_0_1_n_n none l r) main_v13 main_arg8
  let main_v15 : FVec F S1x256 .f32 := broadcastInDim S1x256 ![1] bcast_S256_S1x256_1 main_arg9
  let main_v16 : FVec F S4096x256 .f32 := broadcastInDim S4096x256 ![0, 1] bcast_S1x256_S4096x256_0_1 main_v15
  let main_v17 : FVec F S4096x256 .f32 := addf main_v14 main_v16
  let main_cst : FVec F S_ .f32 := constant S_ .f32 0x00000000#32
  let main_v18 : FVec F S4096x256 .f32 := broadcastInDim S4096x256 ![] bcast_S_S4096x256 main_cst
  let main_v19 : IVec S4096x256 1 := cmpf .une main_v8 main_v18
  let main_c : IVec S_ 1 := constantI S_ 1 0#1
  let main_v20 : IVec S4096 1 := (fun x v => Host.reduce IntOp.ori x v reducesTo_S4096x256_S4096_d1 h_S_) main_v19 main_c
  let main_c_0 : IVec S_ 1 := constantI S_ 1 1#1
  fn_part1 (F := F) main_v17 main_v20 main_c_0
-- ==== Kernel.lean ====
abbrev S4096x304 : Shape := ⟨2, ![4096, 304]⟩
abbrev S4096x112 : Shape := ⟨2, ![4096, 112]⟩
abbrev S304x256 : Shape := ⟨2, ![304, 256]⟩
abbrev S256 : Shape := ⟨1, ![256]⟩
abbrev S256x256 : Shape := ⟨2, ![256, 256]⟩
abbrev S112x256 : Shape := ⟨2, ![112, 256]⟩
abbrev S1x256 : Shape := ⟨2, ![1, 256]⟩
abbrev S1x1 : Shape := ⟨2, ![1, 1]⟩
abbrev S2048x304 : Shape := ⟨2, ![2048, 304]⟩
abbrev S4096x256 : Shape := ⟨2, ![4096, 256]⟩
abbrev S4096 : Shape := ⟨1, ![4096]⟩
abbrev S4096x1 : Shape := ⟨2, ![4096, 1]⟩
abbrev S2048x256 : Shape := ⟨2, ![2048, 256]⟩
abbrev S2048 : Shape := ⟨1, ![2048]⟩
abbrev S2048x1 : Shape := ⟨2, ![2048, 1]⟩
abbrev S2048x4096 : Shape := ⟨2, ![2048, 4096]⟩
abbrev S2048x128 : Shape := ⟨2, ![2048, 128]⟩
abbrev S1x2048 : Shape := ⟨2, ![1, 2048]⟩
abbrev S1 : Shape := ⟨1, ![1]⟩
abbrev S_ : Shape := ⟨0, ![]⟩

abbrev nBuf : Space → Nat
  | .hbm => 16
  | .vmem => 12
  | .smem => 1
  | _ => 0

abbrev bufTy : (tb : Table) → Fin (tcTables nBuf tb) → BufTy
  | .hbm, ⟨0, _⟩ => ⟨S4096x304, .f32⟩
  | .hbm, ⟨1, _⟩ => ⟨S4096x112, .f32⟩
  | .hbm, ⟨2, _⟩ => ⟨S304x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S112x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S_, .f32⟩
  | .local _ .vmem, ⟨0, _⟩ => ⟨S2048x304, .f32⟩
  | .local _ .vmem, ⟨1, _⟩ => ⟨S2048x304, .f32⟩
  | .local _ .vmem, ⟨2, _⟩ => ⟨S4096x112, .f32⟩
  | .local _ .vmem, ⟨3, _⟩ => ⟨S304x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S112x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S4096x256, .bf16⟩
  | .local _ .smem, ⟨0, _⟩ => ⟨S1x1, .f32⟩
  | _, _ => ⟨S4096x304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c2048_i32 : BitVec 32 := 2048#32
  let v133 : BitVec 32 := Scalar.muli arg0 c2048_i32
  let v134 : Index := Scalar.indexCast v133
  let c0_19 : Index := 0#32
  ![v134.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S304x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S112x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "ln2" => some ((Real.log 2 : ℝ) : EReal)
  | "log2e_over_tau" => some (((Real.log 2)⁻¹ * (16777216 / 13421773) : ℝ) : EReal)
  | _ => none
-- ==== Reference.lean ====
abbrev S4096x304 : Shape := ⟨2, ![4096, 304]⟩
abbrev S4096x112 : Shape := ⟨2, ![4096, 112]⟩
abbrev S304x256 : Shape := ⟨2, ![304, 256]⟩
abbrev S256 : Shape := ⟨1, ![256]⟩
abbrev S256x256 : Shape := ⟨2, ![256, 256]⟩
abbrev S112x256 : Shape := ⟨2, ![112, 256]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S1x4096 : Shape := ⟨2, ![1, 4096]⟩

abbrev nBuf : Space → Nat
  | .hbm => 99
  | .vmem => 0
  | .smem => 0
  | _ => 0

abbrev bufTy : (tb : Table) → Fin (tcTables nBuf tb) → BufTy
  | .hbm, ⟨0, _⟩ => ⟨S4096x304, .f32⟩
  | .hbm, ⟨1, _⟩ => ⟨S4096x112, .f32⟩
  | .hbm, ⟨2, _⟩ => ⟨S304x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S112x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .i1⟩
  | .hbm, ⟨17, _⟩ => ⟨S_, .f32⟩
  | .hbm, ⟨18, _⟩ => ⟨S4096x256, .f32⟩
  | .hbm, ⟨19, _⟩ => ⟨S4096x256, .i1⟩
  | .hbm, ⟨20, _⟩ => ⟨S_, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S1x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .i1⟩
  | .hbm, ⟨40, _⟩ => ⟨S_, .f32⟩
  | .hbm, ⟨41, _⟩ => ⟨S4096x256, .f32⟩
  | .hbm, ⟨42, _⟩ => ⟨S4096x256, .i1⟩
  | .hbm, ⟨43, _⟩ => ⟨S_, .f32⟩
  | .hbm, ⟨44, _⟩ => ⟨S_, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1, .f32⟩
  | .hbm, ⟨61, _⟩ => ⟨S4096x256, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1, .f32⟩
  | .hbm, ⟨66, _⟩ => ⟨S256x4096, .f32⟩
  | .hbm, ⟨67, _⟩ => ⟨S4096x4096, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x4096, .f32⟩
  | .hbm, ⟨82, _⟩ => ⟨S4096x4096, .f32⟩
  | .hbm, ⟨83, _⟩ => ⟨S4096x4096, .i32⟩
  | .hbm, ⟨84, _⟩ => ⟨S4096x4096, .i32⟩
  | .hbm, ⟨85, _⟩ => ⟨S_, .i32⟩
  | .hbm, ⟨86, _⟩ => ⟨S4096x4096, .i32⟩
  | .hbm, ⟨87, _⟩ => ⟨S4096x4096, .i32⟩
  | .hbm, ⟨88, _⟩ => ⟨S4096x4096, .i1⟩
  | .hbm, ⟨89, _⟩ => ⟨S4096x4096, .f32⟩
  | .hbm, ⟨90, _⟩ => ⟨S4096x4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S4096x304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_cst_1 : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_v4 : Ref sig .tc := ⟨.hbm, 23, rfl⟩
abbrev main_call0_v5 : Ref sig .tc := ⟨.hbm, 24, rfl⟩
abbrev main_call0_cst_2 : Ref sig .tc := ⟨.hbm, 25, rfl⟩
abbrev main_call0_v6 : Ref sig .tc := ⟨.hbm, 26, rfl⟩
abbrev main_call0_v7 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call2_v0 : Ref sig .tc := ⟨.hbm, 56, rfl⟩
abbrev main_call2_cst : Ref sig .tc := ⟨.hbm, 57, rfl⟩
abbrev main_call2_v1 : Ref sig .tc := ⟨.hbm, 58, rfl⟩
abbrev main_call2_v2 : Ref sig .tc := ⟨.hbm, 59, rfl⟩
abbrev main_v18 : Ref sig .tc := ⟨.hbm, 60, rfl⟩
abbrev main_call3_v0 : Ref sig .tc := ⟨.hbm, 61, rfl⟩
abbrev main_call3_cst : Ref sig .tc := ⟨.hbm, 62, rfl⟩
abbrev main_call3_v1 : Ref sig .tc := ⟨.hbm, 63, rfl⟩
abbrev main_call3_v2 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_0 : Ref sig .tc := ⟨.hbm, 75, rfl⟩
abbrev main_v28 : Ref sig .tc := ⟨.hbm, 76, rfl⟩
abbrev main_v29 : Ref sig .tc := ⟨.hbm, 77, rfl⟩
abbrev main_cst_1 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_2 : Ref sig .tc := ⟨.hbm, 91, rfl⟩
abbrev main_v41 : Ref sig .tc := ⟨.hbm, 92, rfl⟩
abbrev main_v42 : Ref sig .tc := ⟨.hbm, 93, rfl⟩
abbrev main_cst_3 : Ref sig .tc := ⟨.hbm, 94, rfl⟩
abbrev main_v43 : Ref sig .tc := ⟨.hbm, 95, rfl⟩
abbrev main_cst_4 : Ref sig .tc := ⟨.hbm, 96, rfl⟩
abbrev main_v44 : Ref sig .tc := ⟨.hbm, 97, rfl⟩
abbrev main_v45 : Ref sig .tc := ⟨.hbm, 98, rfl⟩

abbrev nD : Nat := 1
abbrev τ : Topo := Topo.v7x

variable {F : FTy → Type} [FloatOps F]
-- ==== Proof.Consts.lean ====
/- The numbers the two programs' float constants denote. -/
module

public import Idealize.ShloMosaic.PureOps.Ideal

@[expose] public section

noncomputable section

namespace Cert.Consts

open Idealize.ShloMosaic

/-- The temperature: the f32 nearest to 0.8. -/
theorem temperature : Ideal.ofBits .f32 0x3F4CCCCD#32 = ((13421773 / 16777216 : ℝ) : EReal) := by
  simp [Ideal.ofBits, Ideal.ieee, -EReal.coe_mul]; norm_num

/-- The guard added to a row's sum: the f32 nearest to 1e-8. -/
theorem guard : Ideal.ofBits .f32 0x322BCC77#32 = ((11258999 / 2 ^ 50 : ℝ) : EReal) := by
  simp [Ideal.ofBits, Ideal.ieee, -EReal.coe_mul]; norm_num

/-- The number of rows. -/
theorem count : Ideal.ofBits .f32 0x45800000#32 = ((4096 : ℝ) : EReal) := by
  simp [Ideal.ofBits, Ideal.ieee, -EReal.coe_mul]; norm_num

/-- One over the number of rows. -/
theorem weight : Ideal.ofBits .f32 0x39800000#32 = ((1 / 4096 : ℝ) : EReal) := by
  simp [Ideal.ofBits, Ideal.ieee, -EReal.coe_mul]; norm_num

end Cert.Consts

end
-- ==== Proof.KernelOut.lean ====
/- What the two grid points leave in the scratch and in the accumulator, as the body's payloads over their blocks. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelOut

open Idealize.ShloMosaic Idealize.ShloMosaic.TcCoe Idealize.SL.Sem
open Cert.KernelIdeal Cert.KernelIdeal.Gen

variable (m : (ℓ : Loc nD τ sig) → Buf (Elt Ideal) ℓ)

/-- The accumulator has one entry. -/
theorem idx_one (j : S1x1.Idx) : j = ix2 0 0 := by
  idx_vars j
  rw [Subsingleton.elim j0 0, Subsingleton.elim j1 0]

/-- One point's partial loss: the body's payload over its five blocks of the first operand and the unit rows `q` of the
    second, of which `d` are the rows the point's own rows are paired with. -/
def part (z : Vec Ideal S2048x304 .f32) (W₁ : Vec Ideal S304x256 .f32) (b₁ : Vec Ideal S1x256 .f32)
    (W₂ : Vec Ideal S256x256 .f32) (b₂ : Vec Ideal S1x256 .f32) (q : Vec Ideal S4096x256 .bf16) (d : Vec Ideal S2048x256 .bf16) :
    EReal :=
  k0_pay7 (F := Ideal) (k0_pay3 z W₁ b₁ W₂ b₂) (k0_pay4 z W₁ b₁ W₂ b₂ q) (k0_pay5 (k0_pay4 z W₁ b₁ W₂ b₂ q))
    (k0_pay6 (k0_pay4 z W₁ b₁ W₂ b₂ q)) d

/-- The unit rows of the second operand, as the first point leaves them in the scratch. -/
def units (c : Dev nD) : Vec Ideal S4096x256 .bf16 :=
  k0_pay2 (F := Ideal) (iblk m c 1 t0_0) (iblk m c 6 t0_0) (iblk m c 7 t0_0) (iblk m c 8 t0_0) (iblk m c 9 t0_0)

/-- The scratch after the first point. -/
theorem scr_first (c : Dev nD) : (outsAt0 m c t0_0.val t0_0.isLt).2 = units m c := by
  funext j
  rw [outsAt0_A m c t0_0 rfl rfl]
  frame_out
  rfl

/-- The rows of the scratch that point `t`'s own rows are paired with: 2048 of them, from row `2048 t`. -/
def paired (q : Vec Ideal S4096x256 .bf16) (t : Fin 2) : Vec Ideal S2048x256 .bf16 :=
  fun y => q (ix2 ⟨2048 * t.val + (y 0).val, by have := (y 0).isLt; have h2 : (y 0).val < 2048 := (y 0).isLt; omega⟩ (y 1))

/-- The first point's load of its paired rows. -/
theorem ld_first (q : Vec Ideal S4096x256 .bf16) :
    (View.ld q (Rect.unit (k0_off1 (grid0.coords t0_0)) ![2048, 256] (k0_off1_inb (grid0.coords t0_0))) : Vec Ideal S2048x256 .bf16)
      = paired q 0 := by
  have h : k0_off1 (grid0.coords t0_0) = ![0, 0] := by decide +kernel
  funext y
  idx_vars y
  pointwise [paired]
  refine congrArg q ((ix2_inj ..).2 ⟨?_, ?_⟩)
  · apply Fin.ext; simp [h]
  · apply Fin.ext; simp [h]

/-- The last point's load of its paired rows. -/
theorem ld_last (q : Vec Ideal S4096x256 .bf16) :
    (View.ld q (Rect.unit (k0_off1 (grid0.coords t0_1)) ![2048, 256] (k0_off1_inb (grid0.coords t0_1))) : Vec Ideal S2048x256 .bf16)
      = paired q 1 := by
  have h : k0_off1 (grid0.coords t0_1) = ![2048, 0] := by decide +kernel
  funext y
  idx_vars y
  pointwise [paired]
  refine congrArg q ((ix2_inj ..).2 ⟨?_, ?_⟩)
  · apply Fin.ext; simp [h]
  · apply Fin.ext; simp [h]

/-- The accumulator after the first point. -/
theorem out_first (c : Dev nD) (j : S1x1.Idx) :
    (outsAt0 m c t0_0.val t0_0.isLt).1 j
      = part (iblk m c 0 t0_0) (iblk m c 2 t0_0) (iblk m c 3 t0_0) (iblk m c 4 t0_0) (iblk m c 5 t0_0) (units m c)
          (paired (units m c) 0) * Ideal.ofBits .f32 0x39800000#32 := by
  rw [outsAt0_A m c t0_0 rfl rfl]
  frame_out
  rw [show k0_pay2 (F := Ideal) (iblk m c 1 t0_0) (iblk m c 6 t0_0) (iblk m c 7 t0_0) (iblk m c 8 t0_0) (iblk m c 9 t0_0)
    = units m c from rfl, ld_first]
  pointwise [k0_pay1]
  rfl

/-- The accumulator after the last point. -/
theorem out_last (c : Dev nD) (j : S1x1.Idx) :
    (outsAt0 m c t0_1.val t0_1.isLt).1 j
      = (outsAt0 m c t0_0.val t0_0.isLt).1 j
        + part (iblk m c 0 t0_1) (iblk m c 2 t0_1) (iblk m c 3 t0_1) (iblk m c 4 t0_1) (iblk m c 5 t0_1) (units m c)
          (paired (units m c) 1) * Ideal.ofBits .f32 0x39800000#32 := by
  rw [outsAt0_B m c t0_1 (by decide) (by decide)]
  frame_out
  have hread : ∀ d : Vec Ideal S4096x256 .bf16, View.read (Elt Ideal) (View.whole cc0_scratch0)
      ((Memref.isWhole_whole cc0_scratch0).unread d) = d := fun d =>
    (Memref.isWhole_whole cc0_scratch0).read_unread d
  simp only [hread]
  rw [show (outsAt0 m c (t0_1.val - 1) _).2 = units m c from scr_first m c]
  rw [ld_last]
  pointwise [k0_pay1]
  rw [idx_one j]
  rfl

end Cert.KernelOut
end
-- ==== Proof.KernelArray.lean ====
/- What the kernel's run leaves in its result. -/
module

public import proofs.«01_k».proof.Proof.KernelOut
public import Idealize.ShloMosaic.Lib.Claim

@[expose] public section

set_option maxRecDepth 16384

noncomputable section

namespace Cert.KernelArray

open Idealize.ShloMosaic Idealize.ShloMosaic.TcCoe Idealize.SL.Sem
open Cert.KernelIdeal Cert.KernelIdeal.Gen

variable (m : (ℓ : Loc nD τ sig) → Buf (Elt Ideal) ℓ)

/-- The accumulator's array ends as the last point leaves it. -/
theorem acc_final (c : Dev nD) : ((dats m 0 c).arrAt 10 (cfgs 0).N : Vec Ideal S1x1 .f32)
    = (outsAt0 m c t0_1.val t0_1.isLt).1 := by
  refine (dats m 0 c).arrAt_eq_of_after_last 10 t0_1 (by decide +kernel) _ fun j => ?_
  blk_simp
  rw [after0_10]

/-- The result is the accumulator's one entry. -/
theorem result_final (c : Dev nD) :
    (Pipeline.afterTail₀ cfgs (dats m) 0 (V0 m) [hostOps1] c main_v5 : Vec Ideal S_ .f32)
      = fun _ => (outsAt0 m c t0_1.val t0_1.isLt).1 (ix2 0 0) := by
  unfold Pipeline.afterTail₀
  show StableHlo.after [StableHlo.reshape main_v4 main_v5 rfl shapeCasts_S1x1_S_] _ _ = _
  after_results
  have e := Pipeline.withArrays_arr (cfgs 0).spec (by decide) c (V0 m c) (fun w => (dats m 0 c).arrAt w (cfgs 0).N) 10
  replace e : Pipeline.withArrays (cfgs 0).spec c (V0 m c) (fun w => (dats m 0 c).arrAt w (cfgs 0).N)
      (Proc.tc.devRef main_v4) = (outsAt0 m c t0_1.val t0_1.isLt).1 := e.trans (acc_final m c)
  rw [e]
  funext i
  show shapeCast S_ (outsAt0 m c t0_1.val t0_1.isLt).1 shapeCasts_S1x1_S_ i = _
  pointwise

end Cert.KernelArray

end
-- ==== Proof.KernelBlocks.lean ====
/- The blocks the two grid points load, as entries of the argument arrays. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelBlocks

open Idealize.ShloMosaic Idealize.ShloMosaic.TcCoe Idealize.SL.Sem
open Cert.KernelIdeal Cert.KernelIdeal.Gen

variable (m : (ℓ : Loc nD τ sig) → Buf (Elt Ideal) ℓ)

/-- The input windows' index maps at every point: the first operand's block moves with the point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

variable (c : Dev nD) (t : Fin cfg0.N)

/-- Point `t`'s block of the first operand holds the operand's rows from `2048 t` on. -/
theorem blk0 (i : Fin 2048) (x : Fin 304) (r : Fin 4096) (hr : r.val = 2048 * t.val + i.val) :
    (iblk m c 0 t : Vec Ideal S2048x304 .f32) (ix2 i x) = m ((c : Thread nD τ).loc main_arg0) (ix2 r x) := by
  blk_ext [iblk, V, idx t]

/-- The second operand is loaded whole. -/
theorem blk1 : iblk m c 1 t = m ((c : Thread nD τ).loc main_arg1) := by blk_ext! [iblk, V, idx t]

/-- The first operand's first weights are loaded whole. -/
theorem blk2 : iblk m c 2 t = m ((c : Thread nD τ).loc main_arg2) := by blk_ext! [iblk, V, idx t]

/-- The first operand's first bias is loaded whole, as a row. -/
theorem blk3 (l : Fin 256) :
    (iblk m c 3 t : Vec Ideal S1x256 .f32) (ix2 0 l) = m ((c : Thread nD τ).loc main_arg3) (ix1 l) := by
  have e : iblk m c 3 t = V m c main_v0 := by blk_ext! [iblk, idx t]
  rw [e]
  show StableHlo.after hostOps0 _ _ _ = _
  dsimp only [hostOps0]
  after_results
  pointwise

/-- The first operand's second weights are loaded whole. -/
theorem blk4 : iblk m c 4 t = m ((c : Thread nD τ).loc main_arg4) := by blk_ext! [iblk, V, idx t]

/-- The first operand's second bias is loaded whole, as a row. -/
theorem blk5 (l : Fin 256) :
    (iblk m c 5 t : Vec Ideal S1x256 .f32) (ix2 0 l) = m ((c : Thread nD τ).loc main_arg5) (ix1 l) := by
  have e : iblk m c 5 t = V m c main_v1 := by blk_ext! [iblk, idx t]
  rw [e]
  show StableHlo.after hostOps0 _ _ _ = _
  dsimp only [hostOps0]
  after_results
  pointwise

/-- The second operand's first weights are loaded whole. -/
theorem blk6 : iblk m c 6 t = m ((c : Thread nD τ).loc main_arg6) := by blk_ext! [iblk, V, idx t]

/-- The second operand's first bias is loaded whole, as a row. -/
theorem blk7 (l : Fin 256) :
    (iblk m c 7 t : Vec Ideal S1x256 .f32) (ix2 0 l) = m ((c : Thread nD τ).loc main_arg7) (ix1 l) := by
  have e : iblk m c 7 t = V m c main_v2 := by blk_ext! [iblk, idx t]
  rw [e]
  show StableHlo.after hostOps0 _ _ _ = _
  dsimp only [hostOps0]
  after_results
  pointwise

/-- The second operand's second weights are loaded whole. -/
theorem blk8 : iblk m c 8 t = m ((c : Thread nD τ).loc main_arg8) := by blk_ext! [iblk, V, idx t]

/-- The second operand's second bias is loaded whole, as a row. -/
theorem blk9 (l : Fin 256) :
    (iblk m c 9 t : Vec Ideal S1x256 .f32) (ix2 0 l) = m ((c : Thread nD τ).loc main_arg9) (ix1 l) := by
  have e : iblk m c 9 t = V m c main_v3 := by blk_ext! [iblk, idx t]
  rw [e]
  show StableHlo.after hostOps0 _ _ _ = _
  dsimp only [hostOps0]
  after_results
  pointwise

end Cert.KernelBlocks

end
-- ==== Proof.Loss.lean ====
/- The mathematics alone: two ways to write the contrastive loss of two families of rows, over the extended reals, and
   the proof that they agree when no row is zero. Nothing here mentions a program. -/
module

public import Idealize.ShloMosaic.PureOps.Ideal
public import Idealize.ShloMosaic.Lib.Pointwise

@[expose] public section

noncomputable section

namespace Cert.Loss

open Idealize.ShloMosaic

/-! ## Vocabulary -/

/-- The squared length of a row. -/
def sqlen {d : ℕ} (p : Fin d → EReal) : EReal := ∑ k, p k * p k

/-- The product of two rows, each multiplied by the reciprocal root of its squared length and the first also by `c`:
    how the kernel computes an entry of the similarity matrix. -/
def score {d : ℕ} (c : EReal) (p q : Fin d → EReal) : EReal :=
  ∑ k, (p k * Ideal.rsqrt (sqlen p) * c) * (q k * Ideal.rsqrt (sqlen q))

/-- The product of two rows over the product of their lengths, over the temperature `τ`: the reference's entry. -/
def cosine {d : ℕ} (τ : EReal) (p q : Fin d → EReal) : EReal :=
  Ideal.div (Ideal.div (∑ k, p k * q k) (Ideal.sqrt (sqlen p) * Ideal.sqrt (sqlen q))) τ

/-- Row `i`'s term of the kernel's loss: the logarithm of the row's sum of powers of two, less the diagonal entry. -/
def kerRow {n d : ℕ} (c ln ε : EReal) (P Q : Fin n → Fin d → EReal) (i : Fin n) : EReal :=
  Ideal.log ((∑ j, Ideal.exp2 (score c (P i) (Q j))) + ε) - score c (P i) (Q i) * ln

/-- The kernel's loss: the first half of the rows' terms times `w`, then the second half's. -/
def kerLoss {d : ℕ} (c ln ε w : EReal) (P Q : Fin 4096 → Fin d → EReal) : EReal :=
  (∑ i : Fin 2048, kerRow c ln ε P Q ⟨i.val, by omega⟩) * w
    + (∑ i : Fin 2048, kerRow c ln ε P Q ⟨2048 + i.val, by omega⟩) * w

/-- Row `i`'s term of the reference's loss: the logarithm of the diagonal entry of the row of exponentials over its sum. -/
def refRow {n d : ℕ} (τ ε : EReal) (P Q : Fin n → Fin d → EReal) (i : Fin n) : EReal :=
  Ideal.log (∑ j, Ideal.div (Ideal.exp (cosine τ (P i) (Q j))) ((∑ j', Ideal.exp (cosine τ (P i) (Q j'))) + ε)
    * (if i = j then 1 else 0))

/-- The reference's loss: minus the mean of its rows' terms. -/
def refLoss {n d : ℕ} (τ ε N : EReal) (P Q : Fin n → Fin d → EReal) : EReal :=
  -Ideal.div (∑ i, refRow τ ε P Q i) N

/-! ## Sums -/

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is not negative. -/
theorem sq_nonneg' (x : EReal) : 0 ≤ x * x := by
  rw [EReal.mul_nonneg_iff]
  rcases le_total 0 x with h | h
  · exact .inl ⟨h, h⟩
  · exact .inr ⟨h, h⟩

/-- The square of an infinity is `⊤`. -/
theorem sq_infinite {x : EReal} (h : x = ⊤ ∨ x = ⊥) : x * x = ⊤ := by
  rcases h with h | h <;> subst h <;> rfl

/-- The length of a nonzero row: `⊤` if an entry is infinite, and otherwise a positive real. -/
theorem sqlen_cases {d : ℕ} (p : Fin d → EReal) (hp : ∃ k, p k ≠ 0) :
    sqlen p = ⊤ ∨ ∃ r : Fin d → ℝ, (∀ k, p k = r k) ∧ 0 < ∑ k, r k * r k ∧ sqlen p = ((∑ k, r k * r k : ℝ) : EReal) := by
  by_cases hinf : ∃ k, p k = ⊤ ∨ p k = ⊥
  · obtain ⟨k, hk⟩ := hinf
    left
    apply top_le_iff.mp
    rw [← sq_infinite hk]
    exact Finset.single_le_sum (f := fun k => p k * p k) (fun i _ => sq_nonneg' _) (Finset.mem_univ k)
  · right
    push Not at hinf
    have hr : ∀ k, p k = ((p k).toReal : EReal) := fun k => (EReal.coe_toReal (hinf k).1 (hinf k).2).symm
    refine ⟨fun k => (p k).toReal, hr, ?_, ?_⟩
    · obtain ⟨k, hk⟩ := hp
      have hk' : (p k).toReal ≠ 0 := fun h => hk (by rw [hr k, h]; rfl)
      exact lt_of_lt_of_le (mul_self_pos.mpr hk')
        (Finset.single_le_sum (f := fun k => (p k).toReal * (p k).toReal) (fun i _ => mul_self_nonneg _)
          (Finset.mem_univ k))
    · rw [coe_sum, sqlen]
      refine Finset.sum_congr rfl fun k _ => ?_
      rw [EReal.coe_mul, ← hr k]

/-! ## One entry of the similarity matrix -/

/-- The root of a nonzero row's squared length is positive. -/
theorem sqrt_sqlen_pos {d : ℕ} (p : Fin d → EReal) (hp : ∃ k, p k ≠ 0) : 0 < Ideal.sqrt (sqlen p) := by
  rcases sqlen_cases p hp with h | ⟨r, -, h0, h⟩
  · rw [h]; exact EReal.zero_lt_top
  · rw [h, Ideal.sqrt_coe, if_neg (not_lt.mpr h0.le)]
    exact EReal.coe_pos.mpr (Real.sqrt_pos.mpr h0)

/-- A quotient by `⊤` is zero. -/
theorem div_top (x : EReal) : Ideal.div x ⊤ = 0 := by
  rw [Ideal.div, if_neg (by simp), EReal.inv_top, mul_zero]

/-- Zero over a positive real is zero. -/
theorem zero_div {τ : ℝ} (h : 0 < τ) : Ideal.div 0 (τ : EReal) = 0 := by
  rw [Ideal.div_coe h.ne', zero_mul]

/-- A row of infinite length makes both entries zero, the first row or the second. -/
theorem entry_infinite {d : ℕ} {τ : ℝ} (hτ : 0 < τ) (c : EReal) (p q : Fin d → EReal) (hp : ∃ k, p k ≠ 0)
    (hq : ∃ k, q k ≠ 0) (h : sqlen p = ⊤ ∨ sqlen q = ⊤) : cosine τ p q = 0 ∧ score c p q = 0 := by
  constructor
  · have : Ideal.sqrt (sqlen p) * Ideal.sqrt (sqlen q) = ⊤ := by
      rcases h with h | h
      · rw [h, Ideal.sqrt_top, EReal.top_mul_of_pos (sqrt_sqlen_pos q hq)]
      · rw [h, Ideal.sqrt_top, EReal.mul_top_of_pos (sqrt_sqlen_pos p hp)]
    rw [cosine, this, div_top, zero_div hτ]
  · refine Finset.sum_eq_zero fun k _ => ?_
    rcases h with h | h <;> simp [h]

/-- The two entries of a pair of nonzero rows: the reference's is a real `s`, the kernel's is `s` over the logarithm of
    two when its factor is one over that logarithm and the temperature. -/
theorem entry {d : ℕ} {τ : ℝ} (hτ : 0 < τ) (p q : Fin d → EReal) (hp : ∃ k, p k ≠ 0) (hq : ∃ k, q k ≠ 0) :
    ∃ s : ℝ, cosine τ p q = s ∧ score (((Real.log 2)⁻¹ * τ⁻¹ : ℝ) : EReal) p q = (((Real.log 2)⁻¹ * s : ℝ) : EReal) := by
  rcases sqlen_cases p hp with h | ⟨x, hx, hx0, hxs⟩
  · exact ⟨0, by simpa using entry_infinite hτ _ p q hp hq (.inl h)⟩
  rcases sqlen_cases q hq with h | ⟨y, hy, hy0, hys⟩
  · exact ⟨0, by simpa using entry_infinite hτ _ p q hp hq (.inr h)⟩
  have hX := Real.sqrt_pos.mpr hx0
  have hY := Real.sqrt_pos.mpr hy0
  refine ⟨(∑ k, x k * y k) * (1 / (√(∑ k, x k * x k) * √(∑ k, y k * y k))) * (1 / τ), ?_, ?_⟩
  · rw [cosine, hxs, hys, Ideal.sqrt_coe, Ideal.sqrt_coe, if_neg (not_lt.mpr hx0.le), if_neg (not_lt.mpr hy0.le),
      ← EReal.coe_mul, Ideal.div_coe (mul_pos hX hY).ne', Ideal.div_coe hτ.ne', EReal.coe_mul, EReal.coe_mul, coe_sum]
    simp only [hx, hy, EReal.coe_mul]
  · rw [score, hxs, hys, Ideal.rsqrt_coe, Ideal.rsqrt_coe, if_neg (not_lt.mpr hx0.le), if_neg (not_lt.mpr hy0.le),
      if_neg hx0.ne', if_neg hy0.ne']
    simp only [hx, hy, ← EReal.coe_mul]
    rw [← coe_sum, Finset.sum_mul, Finset.sum_mul, Finset.mul_sum]
    congr 1
    refine Finset.sum_congr rfl fun k _ => ?_
    field_simp

/-! ## One row -/

/-- Two to the power `s / log 2` is `exp s`. -/
theorem exp2_scaled (s : ℝ) : Ideal.exp2 (((Real.log 2)⁻¹ * s : ℝ) : EReal) = ((Real.exp s : ℝ) : EReal) := by
  rw [Ideal.exp2_coe]
  congr 1
  show (2 : ℝ) ^ ((Real.log 2)⁻¹ * s) = _
  rw [Real.rpow_def_of_pos (by norm_num), ← mul_assoc,
    mul_inv_cancel₀ (Real.log_pos (by norm_num)).ne', one_mul]

/-- The rows' terms: each is a real, and the reference's is minus the kernel's. -/
theorem row {n d : ℕ} {τ ε : ℝ} (hτ : 0 < τ) (hε : 0 < ε) (P Q : Fin n → Fin d → EReal) (hP : ∀ i, ∃ k, P i k ≠ 0)
    (hQ : ∀ j, ∃ k, Q j k ≠ 0) (i : Fin n) :
    ∃ t : ℝ, kerRow (((Real.log 2)⁻¹ * τ⁻¹ : ℝ) : EReal) ((Real.log 2 : ℝ) : EReal) ε P Q i = t
      ∧ refRow τ ε P Q i = ((-t : ℝ) : EReal) := by
  choose s hc hs using fun j => entry hτ (P i) (Q j) (hP i) (hQ j)
  have hR : 0 < (∑ j, Real.exp (s j)) + ε := add_pos_of_nonneg_of_pos (Finset.sum_nonneg fun j _ => (Real.exp_pos _).le) hε
  refine ⟨Real.log ((∑ j, Real.exp (s j)) + ε) - s i, ?_, ?_⟩
  · rw [kerRow]
    simp only [hs, exp2_scaled]
    rw [← coe_sum, ← EReal.coe_add, Ideal.log_coe, if_neg (not_le.mpr hR), ← EReal.coe_mul, ← EReal.coe_sub]
    congr 2
    rw [mul_comm, ← mul_assoc, mul_inv_cancel₀ (Real.log_pos (by norm_num)).ne', one_mul]
  · rw [refRow]
    simp only [hc, Ideal.exp_coe, ← coe_sum, ← EReal.coe_add, Ideal.div_coe hR.ne']
    rw [Finset.sum_eq_single i (fun j _ hj => by rw [if_neg (Ne.symm hj), mul_zero]) (fun h => absurd (Finset.mem_univ i) h),
      if_pos rfl, mul_one, ← EReal.coe_mul, Ideal.log_coe, if_neg (not_le.mpr (mul_pos (Real.exp_pos _) (one_div_pos.mpr hR))),
      Real.log_mul (Real.exp_pos _).ne' (one_div_pos.mpr hR).ne', Real.log_exp, one_div, Real.log_inv]
    congr 1; ring

/-! ## The loss -/

/-- **The two losses are equal**, for positive reals `τ` and `ε`, when no row of either family is zero. -/
theorem loss_eq {d : ℕ} {τ ε : ℝ} (hτ : 0 < τ) (hε : 0 < ε) (P Q : Fin 4096 → Fin d → EReal)
    (hP : ∀ i, ∃ k, P i k ≠ 0) (hQ : ∀ j, ∃ k, Q j k ≠ 0) :
    kerLoss (((Real.log 2)⁻¹ * τ⁻¹ : ℝ) : EReal) ((Real.log 2 : ℝ) : EReal) ε ((1 / 4096 : ℝ) : EReal) P Q
      = refLoss τ ε ((4096 : ℝ) : EReal) P Q := by
  choose t hk hr using fun i => row hτ hε P Q hP hQ i
  rw [kerLoss, refLoss]
  simp only [hk, hr, ← coe_sum]
  rw [Ideal.div_coe (by norm_num), ← EReal.coe_mul, ← EReal.coe_mul, ← EReal.coe_mul, ← EReal.coe_add, ← EReal.coe_neg]
  congr 1
  rw [Finset.sum_neg_distrib, Fin.sum_univ_tiles (M := ℝ) 2 2048 (by norm_num) t, Fin.sum_univ_two]
  simp only [Fin.val_zero, Fin.val_one, zero_mul, zero_add, one_mul]
  ring

end Cert.Loss

end
-- ==== Proof.Mlp.lean ====
/- The two-layer projection both programs begin with, as a function of its arrays' entries. -/
module

public import Idealize.ShloMosaic.PureOps.Ideal
public import Idealize.ShloMosaic.Lib.Pointwise

@[expose] public section

noncomputable section

namespace Cert.Mlp

open Idealize.ShloMosaic

/-- The exponential linear unit: a positive number itself, any other its exponential less one. -/
def elu (h : EReal) : EReal := if 0 < h then h else Ideal.exp h - 1

/-- Entry `(i, k)` of a projection: the rows of `z` through a layer `W₁, b₁`, the unit, and a layer `W₂, b₂`. -/
def proj {n a d : ℕ} (z : Fin n → Fin a → EReal) (W₁ : Fin a → Fin d → EReal) (b₁ : Fin d → EReal)
    (W₂ : Fin d → Fin d → EReal) (b₂ : Fin d → EReal) (i : Fin n) (k : Fin d) : EReal :=
  (∑ l, elu ((∑ x, z i x * W₁ x l) + b₁ l) * W₂ l k) + b₂ k

/-- The unit written with the exponential-minus-one of the number or of zero, as the reference has it. -/
theorem elu_expm1 (h : EReal) : (if 0 < h then h else Ideal.expm1 (if 0 < h then 0 else h)) = elu h := by
  unfold elu
  split_ifs <;> rfl

end Cert.Mlp

end
-- ==== Proof.KernelPay.lean ====
/- What one grid point of the kernel computes from the blocks it loads, entry by entry. -/
module

public import proofs.«01_k».proof.Proof.Gen.KernelIdeal.Skeleton
public import proofs.«01_k».proof.Proof.Loss
public import proofs.«01_k».proof.Proof.Mlp

@[expose] public section

set_option maxRecDepth 16384

noncomputable section

namespace Cert.KernelPay

open Idealize.ShloMosaic Idealize.ShloMosaic.TcCoe Idealize.SL.Sem
open Cert.KernelIdeal Cert.KernelIdeal.Gen

/-- The factor the kernel scales the first operand's unit rows by. -/
abbrev scale : EReal := Named.named (F := Ideal) (φ := .f32) κ "log2e_over_tau" 0x3FE6D4CA#32

/-- The factor the kernel takes the diagonal entry by. -/
abbrev lnTwo : EReal := Named.named (F := Ideal) (φ := .f32) κ "ln2" 0x3F317218#32

/-- The scratch's payload: row `j` of the second projection, scaled to length one. -/
theorem pay2_at (z : Vec Ideal S4096x112 .f32) (W₁ : Vec Ideal S112x256 .f32) (b₁ : Vec Ideal S1x256 .f32)
    (W₂ : Vec Ideal S256x256 .f32) (b₂ : Vec Ideal S1x256 .f32) (j : Fin 4096) (k : Fin 256) (Q : Fin 4096 → Fin 256 → EReal)
    (hQ : Q = Mlp.proj (fun i x => z (ix2 i x)) (fun x l => W₁ (ix2 x l)) (fun l => b₁ (ix2 0 l))
      (fun l k => W₂ (ix2 l k)) (fun k => b₂ (ix2 0 k))) :
    k0_pay2 (F := Ideal) z W₁ b₁ W₂ b₂ (ix2 j k : S4096x256.Idx) = Q j k * Ideal.rsqrt (Loss.sqlen (Q j)) := by
  subst hQ
  pointwise [k0_pay2, Mlp.proj, Mlp.elu, Loss.sqlen]

/-- The first operand's payload: row `i` of its projection, scaled to length one and by the factor `scale`. -/
theorem pay3_at (z : Vec Ideal S2048x304 .f32) (W₁ : Vec Ideal S304x256 .f32) (b₁ : Vec Ideal S1x256 .f32)
    (W₂ : Vec Ideal S256x256 .f32) (b₂ : Vec Ideal S1x256 .f32) (i : Fin 2048) (k : Fin 256) (P : Fin 2048 → Fin 256 → EReal)
    (hP : P = Mlp.proj (fun i x => z (ix2 i x)) (fun x l => W₁ (ix2 x l)) (fun l => b₁ (ix2 0 l))
      (fun l k => W₂ (ix2 l k)) (fun k => b₂ (ix2 0 k))) :
    k0_pay3 (F := Ideal) z W₁ b₁ W₂ b₂ (ix2 i k : S2048x256.Idx) = P i k * Ideal.rsqrt (Loss.sqlen (P i)) * scale := by
  subst hP
  pointwise [k0_pay3, Mlp.proj, Mlp.elu, Loss.sqlen]

/-- The similarities: the inner products of the scaled rows with the scratch's rows. -/
theorem pay4_at (z : Vec Ideal S2048x304 .f32) (W₁ : Vec Ideal S304x256 .f32) (b₁ : Vec Ideal S1x256 .f32)
    (W₂ : Vec Ideal S256x256 .f32) (b₂ : Vec Ideal S1x256 .f32) (s : Vec Ideal S4096x256 .bf16) (i : Fin 2048) (j : Fin 4096) :
    k0_pay4 (F := Ideal) z W₁ b₁ W₂ b₂ s (ix2 i j : S2048x4096.Idx)
      = ∑ k, k0_pay3 (F := Ideal) z W₁ b₁ W₂ b₂ (ix2 i k : S2048x256.Idx) * s (ix2 j k) := by
  pointwise [k0_pay4]

/-- A sum over 4096 positions, gathered into 128 lanes of 32 terms, each lane's terms added from the first to the last. -/
theorem sum_lanes (f : Fin 4096 → EReal) : ∑ j, f j = ∑ l : Fin 128,
    (f ⟨0 + l.val, by omega⟩ + f ⟨128 + l.val, by omega⟩ + f ⟨256 + l.val, by omega⟩ + f ⟨384 + l.val, by omega⟩
      + f ⟨512 + l.val, by omega⟩ + f ⟨640 + l.val, by omega⟩ + f ⟨768 + l.val, by omega⟩ + f ⟨896 + l.val, by omega⟩
      + f ⟨1024 + l.val, by omega⟩ + f ⟨1152 + l.val, by omega⟩ + f ⟨1280 + l.val, by omega⟩ + f ⟨1408 + l.val, by omega⟩
      + f ⟨1536 + l.val, by omega⟩ + f ⟨1664 + l.val, by omega⟩ + f ⟨1792 + l.val, by omega⟩ + f ⟨1920 + l.val, by omega⟩
      + f ⟨2048 + l.val, by omega⟩ + f ⟨2176 + l.val, by omega⟩ + f ⟨2304 + l.val, by omega⟩ + f ⟨2432 + l.val, by omega⟩
      + f ⟨2560 + l.val, by omega⟩ + f ⟨2688 + l.val, by omega⟩ + f ⟨2816 + l.val, by omega⟩ + f ⟨2944 + l.val, by omega⟩
      + f ⟨3072 + l.val, by omega⟩ + f ⟨3200 + l.val, by omega⟩ + f ⟨3328 + l.val, by omega⟩ + f ⟨3456 + l.val, by omega⟩
      + f ⟨3584 + l.val, by omega⟩ + f ⟨3712 + l.val, by omega⟩ + f ⟨3840 + l.val, by omega⟩ + f ⟨3968 + l.val, by omega⟩) := by
  rw [Fin.sum_univ_tiles 32 128 rfl, Finset.sum_comm]
  refine Finset.sum_congr rfl fun l _ => ?_
  simp only [Fin.sum_univ_castSucc, Fin.sum_univ_zero, _root_.zero_add, Fin.val_castSucc, Fin.val_last, Nat.reduceMul]

/-- The partial loss of a block: over its rows, the logarithm of the row's sum of powers of two less the scaled product
    with the paired row. -/
theorem pay7_at (p : FVec Ideal S2048x256 .f32) (u : FVec Ideal S2048x4096 .f32) (d : Vec Ideal S2048x256 .bf16) :
    k0_pay7 (F := Ideal) p u (k0_pay5 u) (k0_pay6 u) d
      = ∑ i : Fin 2048, (Ideal.log ((∑ j : Fin 4096, Ideal.exp2 (u (ix2 i j))) + Ideal.ofBits .f32 0x322BCC77#32)
          - (∑ k : Fin 256, p (ix2 i k) * d (ix2 i k)) * lnTwo) := by
  pointwise [k0_pay7, k0_pay5, k0_pay6]
  refine Finset.sum_congr rfl fun i _ => ?_
  rw [sum_lanes fun j => Ideal.exp2 (u (ix2 i j))]
  simp only [Nat.zero_add]
  rfl

end Cert.KernelPay

end
-- ==== Proof.KernelValue.lean ====
/- The kernel's result is `Loss.kerLoss` of the two projections of its arguments. -/
module

public import proofs.«01_k».proof.Proof.KernelArray
public import proofs.«01_k».proof.Proof.KernelBlocks
public import proofs.«01_k».proof.Proof.KernelPay

@[expose] public section

set_option maxRecDepth 16384

noncomputable section

namespace Cert.KernelValue

open Idealize.ShloMosaic Idealize.ShloMosaic.TcCoe Idealize.SL.Sem
open Cert.KernelIdeal Cert.KernelIdeal.Gen Cert.KernelOut Cert.KernelPay Cert.KernelBlocks

/-- A block's partial loss, of rows `2048 t` to `2048 t + 2047` of a projection `P` against all of `Q`. -/
theorem part_eq (z : Vec Ideal S2048x304 .f32) (W₁ : Vec Ideal S304x256 .f32) (b₁ : Vec Ideal S1x256 .f32)
    (W₂ : Vec Ideal S256x256 .f32) (b₂ : Vec Ideal S1x256 .f32) (q : Vec Ideal S4096x256 .bf16)
    (P Q : Fin 4096 → Fin 256 → EReal) (t : Fin 2)
    (hP : (fun i : Fin 2048 => P ⟨2048 * t.val + i.val, by omega⟩) = Mlp.proj (fun i x => z (ix2 i x)) (fun x l => W₁ (ix2 x l))
      (fun l => b₁ (ix2 0 l)) (fun l k => W₂ (ix2 l k)) (fun k => b₂ (ix2 0 k)))
    (hq : ∀ j k, q (ix2 j k) = Q j k * Ideal.rsqrt (Loss.sqlen (Q j))) :
    part z W₁ b₁ W₂ b₂ q (paired q t)
      = ∑ i : Fin 2048, Loss.kerRow scale lnTwo (Ideal.ofBits .f32 0x322BCC77#32) P Q ⟨2048 * t.val + i.val, by omega⟩ := by
  have h3 := fun i k => pay3_at z W₁ b₁ W₂ b₂ i k _ hP
  unfold part
  rw [pay7_at]
  refine Finset.sum_congr rfl fun i _ => ?_
  unfold Loss.kerRow Loss.score
  refine congrArg₂ (· - ·) (congrArg (fun s => Ideal.log (s + _)) (Finset.sum_congr rfl fun j _ => congrArg Ideal.exp2 ?_))
    (congrArg (· * lnTwo) (Finset.sum_congr rfl fun k _ => ?_))
  · rw [pay4_at]
    refine Finset.sum_congr rfl fun k _ => ?_
    rw [h3, hq]
  · rw [h3]
    exact congrArg _ (hq _ _)

variable (m : (ℓ : Loc nD τ sig) → Buf (Elt Ideal) ℓ) (c : Dev nD)

/-- The first projection of the kernel's arguments. -/
def rowsP : Fin 4096 → Fin 256 → EReal :=
  Mlp.proj (fun i x => (m ((c : Thread nD τ).loc main_arg0) : Vec Ideal S4096x304 .f32) (ix2 i x))
    (fun x l => (m ((c : Thread nD τ).loc main_arg2) : Vec Ideal S304x256 .f32) (ix2 x l))
    (fun l => (m ((c : Thread nD τ).loc main_arg3) : Vec Ideal S256 .f32) (ix1 l))
    (fun l k => (m ((c : Thread nD τ).loc main_arg4) : Vec Ideal S256x256 .f32) (ix2 l k))
    (fun k => (m ((c : Thread nD τ).loc main_arg5) : Vec Ideal S256 .f32) (ix1 k))

/-- The second projection of the kernel's arguments. -/
def rowsQ : Fin 4096 → Fin 256 → EReal :=
  Mlp.proj (fun i x => (m ((c : Thread nD τ).loc main_arg1) : Vec Ideal S4096x112 .f32) (ix2 i x))
    (fun x l => (m ((c : Thread nD τ).loc main_arg6) : Vec Ideal S112x256 .f32) (ix2 x l))
    (fun l => (m ((c : Thread nD τ).loc main_arg7) : Vec Ideal S256 .f32) (ix1 l))
    (fun l k => (m ((c : Thread nD τ).loc main_arg8) : Vec Ideal S256x256 .f32) (ix2 l k))
    (fun k => (m ((c : Thread nD τ).loc main_arg9) : Vec Ideal S256 .f32) (ix1 k))

/-- The scratch holds the second projection's unit rows. -/
theorem units_at (j : Fin 4096) (k : Fin 256) :
    units m c (ix2 j k) = rowsQ m c j k * Ideal.rsqrt (Loss.sqlen (rowsQ m c j)) := by
  refine pay2_at _ _ _ _ _ j k (rowsQ m c) ?_
  unfold rowsQ
  rw [blk1, blk6, blk8]
  exact congrArg₂ (fun f g => Mlp.proj _ _ f _ g) (funext fun l => (blk7 m c t0_0 l).symm) (funext fun l => (blk9 m c t0_0 l).symm)

/-- Point `t`'s projected rows are rows of the first projection. -/
theorem rows_at (t : Fin cfg0.N) (r : Fin 2) (hr : t.val = r.val) :
    (fun i : Fin 2048 => rowsP m c ⟨2048 * r.val + i.val, by omega⟩)
      = Mlp.proj (fun i x => (iblk m c 0 t : Vec Ideal S2048x304 .f32) (ix2 i x))
          (fun x l => (iblk m c 2 t : Vec Ideal S304x256 .f32) (ix2 x l)) (fun l => (iblk m c 3 t : Vec Ideal S1x256 .f32) (ix2 0 l))
          (fun l k => (iblk m c 4 t : Vec Ideal S256x256 .f32) (ix2 l k)) (fun k => (iblk m c 5 t : Vec Ideal S1x256 .f32) (ix2 0 k)) := by
  funext i k
  rw [blk2, blk4, funext (blk3 m c t), funext (blk5 m c t)]
  unfold rowsP Mlp.proj
  refine congrArg (· + _) (Finset.sum_congr rfl fun l _ => congrArg (fun s => Mlp.elu (s + _) * _) (Finset.sum_congr rfl fun x _ => ?_))
  exact congrArg (· * _) (blk0 m c t i x _ (by rw [hr])).symm

/-- The accumulator ends as the kernel's loss of the two projections. -/
theorem acc_eq : (outsAt0 m c t0_1.val t0_1.isLt).1 (ix2 0 0)
    = Loss.kerLoss scale lnTwo (Ideal.ofBits .f32 0x322BCC77#32) (Ideal.ofBits .f32 0x39800000#32) (rowsP m c) (rowsQ m c) := by
  rw [out_last, out_first,
    part_eq _ _ _ _ _ _ _ (rowsQ m c) 0 (rows_at m c t0_0 0 rfl) (units_at m c),
    part_eq _ _ _ _ _ _ _ (rowsQ m c) 1 (rows_at m c t0_1 1 rfl) (units_at m c)]
  unfold Loss.kerLoss
  refine congrArg₂ (· + ·) (congrArg (· * _) (Finset.sum_congr rfl fun i _ => congrArg _ (Fin.ext ?_)))
    (congrArg (· * _) (Finset.sum_congr rfl fun i _ => congrArg _ (Fin.ext ?_)))
  · simp
  · simp

/-- The kernel's run ends with its loss in the result and its arguments as launched. -/
theorem result_eq : (Pipeline.afterTail₀ cfgs (dats m) 0 (V0 m) [hostOps1] c main_v5 : Vec Ideal S_ .f32)
    = fun _ => Loss.kerLoss scale lnTwo (Ideal.ofBits .f32 0x322BCC77#32) (Ideal.ofBits .f32 0x39800000#32)
        (rowsP m c) (rowsQ m c) := by
  rw [KernelArray.result_final, acc_eq]

end Cert.KernelValue

end
-- ==== Proof.RefValue.lean ====
/- What the reference computes: its result, read entry by entry, is `Loss.refLoss` of the two projections. -/
module

public import proofs.«01_k».proof.Proof.Gen.ReferenceIdeal.Run
public import proofs.«01_k».proof.Proof.Loss
public import proofs.«01_k».proof.Proof.Mlp

@[expose] public section

set_option maxRecDepth 16384

noncomputable section

namespace Cert.RefValue

open Idealize.ShloMosaic Idealize.ShloMosaic.TcCoe Idealize.SL.Sem
open Cert.ReferenceIdeal Cert.ReferenceIdeal.Gen

/-- The first layer's product of the 304-column operand, with its bias. -/
def hidCf (z : FVec Ideal S4096x304 .f32) (W : FVec Ideal S304x256 .f32) (b : FVec Ideal S256 .f32) : FVec Ideal S4096x256 .f32 :=
  addf (Host.dotGeneral dot_S4096x304_S304x256_S4096x256_1_0_0_1_n_n none z W)
    (broadcastInDim S4096x256 ![0, 1] bcast_S1x256_S4096x256_0_1 (broadcastInDim S1x256 ![1] bcast_S256_S1x256_1 b))

/-- The first layer's product of the 112-column operand, with its bias. -/
def hidKg (z : FVec Ideal S4096x112 .f32) (W : FVec Ideal S112x256 .f32) (b : FVec Ideal S256 .f32) : FVec Ideal S4096x256 .f32 :=
  addf (Host.dotGeneral dot_S4096x112_S112x256_S4096x256_1_0_0_1_n_n none z W)
    (broadcastInDim S4096x256 ![0, 1] bcast_S1x256_S4096x256_0_1 (broadcastInDim S1x256 ![1] bcast_S256_S1x256_1 b))

/-- The exponential linear unit of every entry. -/
def act (h : FVec Ideal S4096x256 .f32) : FVec Ideal S4096x256 .f32 :=
  select (cmpf .ogt h (broadcastInDim S4096x256 ![] bcast_S_S4096x256 (constant S_ .f32 0x00000000#32))) h
    (mulf (broadcastInDim S4096x256 ![] bcast_S_S4096x256 (constant S_ .f32 0x3F800000#32))
      (Host.expm1 (select (cmpf .ogt h (broadcastInDim S4096x256 ![] bcast_S_S4096x256 (constant S_ .f32 0x00000000#32)))
        (broadcastInDim S4096x256 ![] bcast_S_S4096x256 (id (constant S_ .f32 0x00000000#32))) h)))

/-- The second layer. -/
def layer2 (h : FVec Ideal S4096x256 .f32) (W : FVec Ideal S256x256 .f32) (b : FVec Ideal S256 .f32) : FVec Ideal S4096x256 .f32 :=
  addf (Host.dotGeneral dot_S4096x256_S256x256_S4096x256_1_0_0_1_n_n none h W)
    (broadcastInDim S4096x256 ![0, 1] bcast_S1x256_S4096x256_0_1 (broadcastInDim S1x256 ![1] bcast_S256_S1x256_1 b))

/-- The lengths of the rows, as a column. -/
def lengths (P : FVec Ideal S4096x256 .f32) : FVec Ideal S4096x1 .f32 :=
  Host.sqrt (broadcastInDim S4096x1 ![0] bcast_S4096_S4096x1_0
    (Host.reduceAdd (mulf P P) (constant S_ .f32 0x00000000#32) reducesTo_S4096x256_S4096_d1 h_S_))

/-- The matrix of exponentials of the cosines over the temperature. -/
def expSim (P Q : FVec Ideal S4096x256 .f32) : FVec Ideal S4096x4096 .f32 :=
  Host.exp (Host.divf (Host.divf
      (Host.dotGeneral dot_S4096x256_S256x4096_S4096x4096_1_0_0_1_n_n none P
        (transpose S256x4096 [1, 0] Q transposes_S4096x256_S256x4096_1_0))
      (Host.dotGeneral dot_S4096x1_S1x4096_S4096x4096_1_0_0_1_n_n none (lengths P)
        (transpose S1x4096 [1, 0] (lengths Q) transposes_S4096x1_S1x4096_1_0)))
    (broadcastInDim S4096x4096 ![] bcast_S_S4096x4096 (constant S_ .f32 0x3F4CCCCD#32)))

/-- The matrix of ones on the diagonal. -/
def eye : FVec Ideal S4096x4096 .f32 :=
  uitofp .f32 (cmpi .eq
    (addi (iotaInDim S4096x4096 32 0) (broadcastInDim S4096x4096 ![] bcast_S_S4096x4096 (constantI S_ 32 0#32)))
    (iotaInDim S4096x4096 32 1))

/-- The diagonal entries of the matrix `E` with each row divided by its sum and a small number. -/
def picked (E : FVec Ideal S4096x4096 .f32) : FVec Ideal S4096 .f32 :=
  Host.reduceAdd (mulf (Host.divf E
      (broadcastInDim S4096x4096 ![0, 1] bcast_S4096x1_S4096x4096_0_1
        (addf (shapeCast S4096x1 (Host.reduceAdd E (constant S_ .f32 0x00000000#32) reducesTo_S4096x4096_S4096_d1 h_S_)
            shapeCasts_S4096_S4096x1)
          (broadcastInDim S4096x1 ![] bcast_S_S4096x1 (constant S_ .f32 0x322BCC77#32))))) eye)
    (constant S_ .f32 0x00000000#32) reducesTo_S4096x4096_S4096_d1 h_S_

/-- Minus the mean of the logarithms. -/
def total (v : FVec Ideal S4096 .f32) : FVec Ideal S_ .f32 :=
  Host.negf (Host.divf (Host.reduceAdd (Host.log v) (constant S_ .f32 0x00000000#32) reducesTo_S4096_S_d0 h_S_)
    (constant S_ .f32 0x45800000#32))

set_option maxHeartbeats 4000000 in
/-- The reference's result is these stages in turn. -/
theorem res_stages (m : (ℓ : Loc nD τ sig) → Buf (Elt Ideal) ℓ) (c : Dev nD) :
    Value.res_out0 (F := Ideal) m c = total (picked (expSim
      (layer2 (act (hidCf (m ((c.tc : Thread nD τ).loc main_arg0)) (m ((c.tc : Thread nD τ).loc main_arg2))
        (m ((c.tc : Thread nD τ).loc main_arg3)))) (m ((c.tc : Thread nD τ).loc main_arg4)) (m ((c.tc : Thread nD τ).loc main_arg5)))
      (layer2 (act (hidKg (m ((c.tc : Thread nD τ).loc main_arg1)) (m ((c.tc : Thread nD τ).loc main_arg6))
        (m ((c.tc : Thread nD τ).loc main_arg7)))) (m ((c.tc : Thread nD τ).loc main_arg8)) (m ((c.tc : Thread nD τ).loc main_arg9))))) :=
  rfl

/-- A projection of the reference, entry by entry: `Mlp.proj` of the 304-column operand. -/
theorem projCf_at (z : FVec Ideal S4096x304 .f32) (W₁ : FVec Ideal S304x256 .f32) (b₁ : FVec Ideal S256 .f32)
    (W₂ : FVec Ideal S256x256 .f32) (b₂ : FVec Ideal S256 .f32) (i : Fin 4096) (k : Fin 256) :
    layer2 (act (hidCf z W₁ b₁)) W₂ b₂ (ix2 i k : S4096x256.Idx)
      = Mlp.proj (fun i x => z (ix2 i x)) (fun x l => W₁ (ix2 x l)) (fun l => b₁ (ix1 l)) (fun l k => W₂ (ix2 l k))
          (fun k => b₂ (ix1 k)) i k := by
  pointwise [layer2, act, hidCf, Mlp.proj, id_eq]
  exact congrArg (· + _) (Finset.sum_congr rfl fun l _ => congrArg (· * _) (Mlp.elu_expm1 _))

/-- A projection of the reference, entry by entry: `Mlp.proj` of the 112-column operand. -/
theorem projKg_at (z : FVec Ideal S4096x112 .f32) (W₁ : FVec Ideal S112x256 .f32) (b₁ : FVec Ideal S256 .f32)
    (W₂ : FVec Ideal S256x256 .f32) (b₂ : FVec Ideal S256 .f32) (i : Fin 4096) (k : Fin 256) :
    layer2 (act (hidKg z W₁ b₁)) W₂ b₂ (ix2 i k : S4096x256.Idx)
      = Mlp.proj (fun i x => z (ix2 i x)) (fun x l => W₁ (ix2 x l)) (fun l => b₁ (ix1 l)) (fun l k => W₂ (ix2 l k))
          (fun k => b₂ (ix1 k)) i k := by
  pointwise [layer2, act, hidKg, Mlp.proj, id_eq]
  exact congrArg (· + _) (Finset.sum_congr rfl fun l _ => congrArg (· * _) (Mlp.elu_expm1 _))

/-- An entry of the matrix of exponentials. -/
theorem expSim_at (P Q : FVec Ideal S4096x256 .f32) (i j : Fin 4096) :
    expSim P Q (ix2 i j : S4096x4096.Idx)
      = Ideal.exp (Loss.cosine (Ideal.ofBits .f32 0x3F4CCCCD#32) (fun k => P (ix2 i k)) (fun k => Q (ix2 j k))) := by
  pointwise [expSim, lengths, Loss.cosine, Loss.sqlen]
  rw [Fin.sum_univ_one]

/-- An entry of the matrix of ones on the diagonal. -/
theorem eye_at (i j : Fin 4096) : eye (ix2 i j : S4096x4096.Idx) = if i = j then 1 else 0 := by
  pointwise [eye]
  show (((BitVec.ofBool (BitVec.ofNat 32 i.val + 0#32 == BitVec.ofNat 32 j.val)).toNat : ℝ) : EReal) = _
  have hi := i.isLt
  have hj := j.isLt
  by_cases h : i = j
  · subst h; simp
  · have hne : BitVec.ofNat 32 i.val ≠ BitVec.ofNat 32 j.val := fun e => h (Fin.ext (by
      have e' := congrArg BitVec.toNat e
      rw [BitVec.toNat_ofNat, BitVec.toNat_ofNat, Nat.mod_eq_of_lt (by omega), Nat.mod_eq_of_lt (by omega)] at e'
      exact e'))
    rw [if_neg h, BitVec.add_zero, beq_eq_false_iff_ne.mpr hne]
    simp

/-- The picked entry of row `i`, as the sum over the row that picks it. -/
theorem picked_at (E : FVec Ideal S4096x4096 .f32) (i : Fin 4096) :
    picked E (ix1 i : S4096.Idx) = ∑ j, Ideal.div (E (ix2 i j)) ((∑ j', E (ix2 i j')) + Ideal.ofBits .f32 0x322BCC77#32)
      * (if i = j then 1 else 0) := by
  pointwise [picked, eye_at]

/-- The one number the reference returns. -/
theorem total_at (v : FVec Ideal S4096 .f32) :
    total v ix0 = -Ideal.div (∑ i, Ideal.log (v (ix1 i))) (Ideal.ofBits .f32 0x45800000#32) := by
  pointwise [total]

/-- **The reference's result** is `Loss.refLoss` of the two projections of its arguments. -/
theorem res_eq (m : (ℓ : Loc nD τ sig) → Buf (Elt Ideal) ℓ) (c : Dev nD)
    (z₁ : FVec Ideal S4096x304 .f32) (z₂ : FVec Ideal S4096x112 .f32)
    (W₁ : FVec Ideal S304x256 .f32) (b₁ : FVec Ideal S256 .f32) (W₂ : FVec Ideal S256x256 .f32) (b₂ : FVec Ideal S256 .f32)
    (V₁ : FVec Ideal S112x256 .f32) (c₁ : FVec Ideal S256 .f32) (V₂ : FVec Ideal S256x256 .f32) (c₂ : FVec Ideal S256 .f32)
    (h0 : m ((c.tc : Thread nD τ).loc main_arg0) = z₁) (h1 : m ((c.tc : Thread nD τ).loc main_arg1) = z₂)
    (h2 : m ((c.tc : Thread nD τ).loc main_arg2) = W₁) (h3 : m ((c.tc : Thread nD τ).loc main_arg3) = b₁)
    (h4 : m ((c.tc : Thread nD τ).loc main_arg4) = W₂) (h5 : m ((c.tc : Thread nD τ).loc main_arg5) = b₂)
    (h6 : m ((c.tc : Thread nD τ).loc main_arg6) = V₁) (h7 : m ((c.tc : Thread nD τ).loc main_arg7) = c₁)
    (h8 : m ((c.tc : Thread nD τ).loc main_arg8) = V₂) (h9 : m ((c.tc : Thread nD τ).loc main_arg9) = c₂) :
    Value.res_out0 (F := Ideal) m c = fun _ => Loss.refLoss (Ideal.ofBits .f32 0x3F4CCCCD#32) (Ideal.ofBits .f32 0x322BCC77#32)
      (Ideal.ofBits .f32 0x45800000#32)
      (Mlp.proj (fun i x => z₁ (ix2 i x)) (fun x l => W₁ (ix2 x l)) (fun l => b₁ (ix1 l)) (fun l k => W₂ (ix2 l k))
        (fun k => b₂ (ix1 k)))
      (Mlp.proj (fun i x => z₂ (ix2 i x)) (fun x l => V₁ (ix2 x l)) (fun l => c₁ (ix1 l)) (fun l k => V₂ (ix2 l k))
        (fun k => c₂ (ix1 k))) := by
  rw [res_stages, h0, h1, h2, h3, h4, h5, h6, h7, h8, h9]
  funext j
  rw [show j = (ix0 : S_.Idx) from Subsingleton.elim _ _]
  rw [total_at]
  simp only [picked_at, expSim_at, projCf_at, projKg_at]
  rfl

end Cert.RefValue

end
-- ==== Proof.Pre.lean ====
/- What the precondition says: every row of the two projections has a nonzero entry. -/
module

public import proofs.«01_k».proof.Proof.Gen.Pre_rows_nonzero
public import proofs.«01_k».proof.Proof.RefValue
public import proofs.«01_k».proof.Proof.Consts

@[expose] public section

set_option maxRecDepth 16384

noncomputable section

namespace Cert.Pre

open Idealize.ShloMosaic Idealize.ShloMosaic.TcCoe
open Cert.Pre_rows_nonzero Cert.Pre_rows_nonzero.Gen

/-- A conjunction of truth words that is true has every word true. -/
theorem fold_and {ι : Type} [DecidableEq ι] (s : Finset ι) (f : ι → BitVec 1)
    (h : s.fold IntOp.andi 1#1 f = 1#1) : ∀ i ∈ s, f i = 1#1 := by
  induction s using Finset.induction_on with
  | empty => simp
  | insert a s ha ih =>
    rw [Finset.fold_insert ha] at h
    have hb : ∀ x y : BitVec 1, IntOp.andi x y = 1#1 → x = 1#1 ∧ y = 1#1 := by decide
    intro i hi
    rcases Finset.mem_insert.1 hi with rfl | hi
    · exact (hb _ _ h).1
    · exact ih (hb _ _ h).2 i hi

/-- A disjunction of truth words that is true has a word true. -/
theorem fold_or {ι : Type} [DecidableEq ι] (s : Finset ι) (f : ι → BitVec 1)
    (h : s.fold IntOp.ori 0#1 f = 1#1) : ∃ i ∈ s, f i = 1#1 := by
  induction s using Finset.induction_on with
  | empty => simp at h
  | insert a s ha ih =>
    rw [Finset.fold_insert ha] at h
    have hb : ∀ x y : BitVec 1, IntOp.ori x y = 1#1 → x = 1#1 ∨ y = 1#1 := by decide
    rcases hb _ _ h with h | h
    · exact ⟨a, Finset.mem_insert_self a s, h⟩
    · obtain ⟨i, hi, h⟩ := ih h
      exact ⟨i, Finset.mem_insert_of_mem hi, h⟩

/-- The truth word saying that every row of a matrix has a nonzero entry. -/
def rowsNonzero (P : FVec Ideal S4096x256 .f32) : IVec S_ 1 :=
  Host.reduce IntOp.andi
    (Host.reduce IntOp.ori (cmpf .une P (broadcastInDim S4096x256 ![] bcast_S_S4096x256 (constant S_ .f32 0x00000000#32)))
      (constantI S_ 1 0#1) reducesTo_S4096x256_S4096_d1 h_S_)
    (constantI S_ 1 1#1) reducesTo_S4096_S_d0 h_S_

/-- What the truth word says. -/
theorem rowsNonzero_at (P : FVec Ideal S4096x256 .f32) (h : rowsNonzero P ix0 = 1#1) (i : Fin 4096) :
    ∃ k : Fin 256, P (ix2 i k) ≠ 0 := by
  revert h
  pointwise [rowsNonzero]
  intro h
  obtain ⟨k, _, hk⟩ := fold_or _ _ (fold_and _ _ h i (Finset.mem_univ i))
  refine ⟨k, ?_⟩
  by_contra h0
  simp [h0] at hk

/-- The precondition is the two words' conjunction, over the two projections. -/
theorem fn_eq (z₁ : FVec Ideal S4096x304 .f32) (z₂ : FVec Ideal S4096x112 .f32)
    (W₁ : FVec Ideal S304x256 .f32) (b₁ : FVec Ideal S256 .f32) (W₂ : FVec Ideal S256x256 .f32) (b₂ : FVec Ideal S256 .f32)
    (V₁ : FVec Ideal S112x256 .f32) (c₁ : FVec Ideal S256 .f32) (V₂ : FVec Ideal S256x256 .f32) (c₂ : FVec Ideal S256 .f32) :
    fn (F := Ideal) z₁ z₂ W₁ b₁ W₂ b₂ V₁ c₁ V₂ c₂
      = andi (rowsNonzero (RefValue.layer2 (RefValue.act (RefValue.hidCf z₁ W₁ b₁)) W₂ b₂))
          (rowsNonzero (RefValue.layer2 (RefValue.act (RefValue.hidKg z₂ V₁ c₁)) V₂ c₂)) := rfl

/-- Under the precondition every row of either projection has a nonzero entry. -/
theorem rows (z₁ : FVec Ideal S4096x304 .f32) (z₂ : FVec Ideal S4096x112 .f32)
    (W₁ : FVec Ideal S304x256 .f32) (b₁ : FVec Ideal S256 .f32) (W₂ : FVec Ideal S256x256 .f32) (b₂ : FVec Ideal S256 .f32)
    (V₁ : FVec Ideal S112x256 .f32) (c₁ : FVec Ideal S256 .f32) (V₂ : FVec Ideal S256x256 .f32) (c₂ : FVec Ideal S256 .f32)
    (h : fn (F := Ideal) z₁ z₂ W₁ b₁ W₂ b₂ V₁ c₁ V₂ c₂ = fun _ => 1#1) :
    (∀ i, ∃ k, Mlp.proj (fun i x => z₁ (ix2 i x)) (fun x l => W₁ (ix2 x l)) (fun l => b₁ (ix1 l)) (fun l k => W₂ (ix2 l k))
        (fun k => b₂ (ix1 k)) i k ≠ 0)
    ∧ (∀ i, ∃ k, Mlp.proj (fun i x => z₂ (ix2 i x)) (fun x l => V₁ (ix2 x l)) (fun l => c₁ (ix1 l)) (fun l k => V₂ (ix2 l k))
        (fun k => c₂ (ix1 k)) i k ≠ 0) := by
  rw [fn_eq] at h
  have h' := congrFun h ix0
  have hb : ∀ x y : BitVec 1, IntOp.andi x y = 1#1 → x = 1#1 ∧ y = 1#1 := by decide
  obtain ⟨hP, hQ⟩ := hb _ _ h'
  constructor
  · intro i
    obtain ⟨k, hk⟩ := rowsNonzero_at _ hP i
    exact ⟨k, by rwa [RefValue.projCf_at] at hk⟩
  · intro i
    obtain ⟨k, hk⟩ := rowsNonzero_at _ hQ i
    exact ⟨k, by rwa [RefValue.projKg_at] at hk⟩

end Cert.Pre

end
-- ==== Proof.lean ====
/- The claims, assembled: the frames from the generated runs, the two named constants, and the equation of the kernel's
   loss with the reference's from what each computes (KernelValue, RefValue, Loss). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Reference
public import proofs.«01_k».proof.Proof.Gen.Reference.Run
public import proofs.«01_k».proof.Proof.Gen.Pre_rows_nonzero
public import proofs.«01_k».proof.Proof.Consts
public import proofs.«01_k».proof.Proof.KernelValue
public import proofs.«01_k».proof.Proof.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to its end and leaves its arguments. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does its idealization under the precondition. -/
theorem frame_pi_pre : Cert.quiescent_KernelIdeal_pre_rows_nonzero := fun m ρ _ => Cert.KernelIdeal.Gen.frame m ρ

/-- So does the reference's idealization. -/
theorem frame_ri : Cert.quiescent_ReferenceIdeal := by
  intro m ρ _
  hlo_run
  · simp
  · exact sem_eq_zero_of_no_sems rfl _

/-- So does the reference's idealization under the precondition. -/
theorem frame_ri_pre : Cert.quiescent_ReferenceIdeal_pre_rows_nonzero := by
  intro m ρ _
  hlo_run
  · simp
  · exact sem_eq_zero_of_no_sems rfl _

/-- So does the reference. -/
theorem frame_r : Cert.quiescent_Reference := by
  intro m ρ _
  hlo_run
  · simp
  · exact sem_eq_zero_of_no_sems rfl _

/-- The kernel's two constants are the numbers they are named after, rounded. -/
theorem preserves : Cert.preserves_Kernel_KernelIdeal :=
  ⟨IdealRules.named_const.statement Cert.KernelIdeal.κ "log2e_over_tau" .f32 0x3FE6D4CA#32
      (((Real.log 2)⁻¹ * (16777216 / 13421773) : ℝ) : EReal) rfl,
    IdealRules.named_const.statement Cert.KernelIdeal.κ "ln2" .f32 0x3F317218#32 ((Real.log 2 : ℝ) : EReal) rfl⟩

/-- The named factor of the first operand's rows. -/
theorem scale_eq : KernelPay.scale = (((Real.log 2)⁻¹ * (16777216 / 13421773) : ℝ) : EReal) :=
  IdealRules.named_const.ideal_named_scalar _ _ _ _ rfl

/-- The named factor of the diagonal entries. -/
theorem lnTwo_eq : KernelPay.lnTwo = ((Real.log 2 : ℝ) : EReal) :=
  IdealRules.named_const.ideal_named_scalar _ _ _ _ rfl

/-- The two losses of two matrices whose rows are nonzero are equal, at the constants the two programs have. -/
theorem losses (P Q : Fin 4096 → Fin 256 → EReal) (hP : ∀ i, ∃ k, P i k ≠ 0) (hQ : ∀ j, ∃ k, Q j k ≠ 0) :
    Loss.kerLoss KernelPay.scale KernelPay.lnTwo (Ideal.ofBits .f32 0x322BCC77#32) (Ideal.ofBits .f32 0x39800000#32) P Q
      = Loss.refLoss (Ideal.ofBits .f32 0x3F4CCCCD#32) (Ideal.ofBits .f32 0x322BCC77#32) (Ideal.ofBits .f32 0x45800000#32) P Q := by
  rw [scale_eq, lnTwo_eq, Consts.temperature, Consts.guard, Consts.count, Consts.weight,
    show ((16777216 / 13421773 : ℝ)) = (13421773 / 16777216)⁻¹ by norm_num]
  exact Loss.loss_eq (by norm_num) (by norm_num) P Q hP hQ

/-- The kernel's loss is the reference's. -/
theorem algebraic : Cert.algebraic_KernelIdeal_ReferenceIdeal_pre_rows_nonzero := by
  pair_intro
  · run_from Cert.KernelIdeal.Gen.run_main m g
    · exact Cert.KernelIdeal.Gen.W_main_arg3 m _ c
    · exact Cert.KernelIdeal.Gen.W_main_arg5 m _ c
    · exact Cert.KernelIdeal.Gen.W_main_arg7 m _ c
    · exact Cert.KernelIdeal.Gen.W_main_arg9 m _ c
  · run_from Cert.ReferenceIdeal.Value.run m' g'
    obtain ⟨h0, h1, h2, h3, h4, h5, h6, h7, h8, h9⟩ := hagree c
    obtain ⟨hP, hQ⟩ := Pre.rows _ _ _ _ _ _ _ _ _ _ (hpre c)
    exact (RefValue.res_eq m' c _ _ _ _ _ _ _ _ _ _ h0 h1 h2 h3 h4 h5 h6 h7 h8 h9).trans
      ((funext fun _ => (losses _ _ hP hQ).symm).trans (KernelValue.result_eq m c).symm)

/-- Every claim of this proof. -/
theorem claim : Cert.Claim := ⟨Cert.Kernel.Gen.facts, Cert.KernelIdeal.Gen.facts, Cert.ReferenceIdeal.Gen.facts,
  Cert.Reference.Gen.facts, Cert.Pre_rows_nonzero.Gen.facts,
  frame_p, frame_pi, frame_pi_pre, frame_ri, frame_ri_pre, frame_r, preserves, trivial, algebraic⟩

end Cert.Proof

end
